-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x8192 : Shape := ⟨2, ![4096, 8192]⟩
abbrev S256x8192 : Shape := ⟨2, ![256, 8192]⟩
abbrev S256x256 : Shape := ⟨2, ![256, 256]⟩
abbrev S256x1 : Shape := ⟨2, ![256, 1]⟩

abbrev nBuf : Space → Nat
  | .hbm => 2
  | .vmem => 4
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x8192 : Shape := ⟨2, ![4096, 8192]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S_, .f32⟩
  | .hbm, ⟨2, _⟩ => ⟨S_, .f32⟩
  | .hbm, ⟨3, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Prefix.lean ====
/-
  The function that the kernel and the reference are both shown to compute: the inclusive prefix sums of a matrix's rows,
  over the extended reals.
-/
module

public import Idealize.ShloMosaic.Lib.Pointwise
public import Mathlib.Data.EReal.Operations

@[expose] public section

noncomputable section

namespace Cert.Prefix

open Idealize.ShloMosaic

/-- Row `r` of a matrix as a sequence of its columns (the column reduced modulo the width, so that it is total). -/
def row {R C : ℕ} [NeZero C] (x : (⟨2, ![R, C]⟩ : Shape).Idx → EReal) (r : Fin R) (j : ℕ) : EReal :=
  x (ix2 r (Fin.ofNat C j))

/-- The matrix of prefix sums: at each index, the sum of its row's columns up to and including its own. -/
def sums {R C : ℕ} [NeZero C] (x : (⟨2, ![R, C]⟩ : Shape).Idx → EReal) : (⟨2, ![R, C]⟩ : Shape).Idx → EReal :=
  fun y => ∑ j ∈ Finset.range ((y 1).val + 1), row x (y 0) j

/-- An element of the matrix is its row at its column. -/
theorem row_of_fin {R C : ℕ} [NeZero C] (x : (⟨2, ![R, C]⟩ : Shape).Idx → EReal) (r : Fin R) (q : Fin C) :
    row x r q = x (ix2 r q) :=
  congrArg (fun b => x (ix2 r b)) (Fin.ext (Nat.mod_eq_of_lt q.isLt))

/-- The prefix sums of a row depend on that row alone. -/
theorem sums_congr {R R' C : ℕ} [NeZero C] (x : (⟨2, ![R, C]⟩ : Shape).Idx → EReal)
    (x' : (⟨2, ![R', C]⟩ : Shape).Idx → EReal) (r : Fin R) (r' : Fin R') (h : ∀ q : Fin C, x (ix2 r q) = x' (ix2 r' q))
    (q : Fin C) : sums x (ix2 r q) = sums x' (ix2 r' q) :=
  Finset.sum_congr rfl fun j _ => h (Fin.ofNat C j)

end Cert.Prefix

end
-- ==== Proof.Sums.lean ====
/-
  Sums of extended reals, without any program: a left fold of additions as a sum, a prefix sum cut after a whole
  number of chunks, and the sum over a window that is padded below.
-/
module

public import Mathlib.Data.EReal.Basic
public import Mathlib.Data.EReal.Operations
public import Mathlib.Algebra.BigOperators.Fin
public import Mathlib.Algebra.BigOperators.Intervals

@[expose] public section

namespace Cert.Sums

open Finset

/-- Adding the values of a list to `v` one after another gives `v` plus their sum. -/
theorem foldl_add_eq {ι M : Type*} [AddCommMonoid M] (g : ι → M) (l : List ι) (v : M) :
    l.foldl (fun r n => r + g n) v = v + (l.map g).sum := by
  induction l generalizing v with
  | nil => simp
  | cons a l ih => rw [List.foldl_cons, ih, List.map_cons, List.sum_cons, add_assoc]

/-- The same over all of `Fin N`, in order. -/
theorem foldl_finRange_eq {M : Type*} [AddCommMonoid M] {N : ℕ} (g : Fin N → M) (v : M) :
    (List.finRange N).foldl (fun r n => r + g n) v = v + ∑ n, g n := by
  rw [foldl_add_eq, Fin.sum_univ_def]

/-- A sum over `Fin N` whose terms past `q` are switched off by a factor of zero is the sum of the first `q + 1`. -/
theorem sum_mul_le_eq {N : ℕ} (f : ℕ → EReal) (q : ℕ) (hq : q < N) :
    (∑ k : Fin N, f k * (if (k : ℕ) ≤ q then 1 else 0)) = ∑ j ∈ range (q + 1), f j := by
  rw [Fin.sum_univ_eq_sum_range (fun k => f k * (if k ≤ q then 1 else 0)) N]
  simp only [mul_ite, mul_one, mul_zero]
  rw [← sum_filter]
  refine sum_congr (ext fun j => ?_) fun _ _ => rfl
  rw [mem_filter, mem_range, mem_range]
  omega

/-- The first `b` terms, then `q` more counted from `b`, are the first `b + q` terms. -/
theorem sum_range_append {M : Type*} [AddCommMonoid M] (f : ℕ → M) (b q : ℕ) :
    (∑ j ∈ range b, f j) + ∑ j ∈ range q, f (b + j) = ∑ j ∈ range (b + q), f j :=
  (sum_range_add f b q).symm

/-- A window of `n + 1` positions that ends at `q`, its positions below the array's start counting zero, sums the
    first `q + 1` terms. -/
theorem sum_padded_window {M : Type*} [AddCommMonoid M] (f : ℕ → M) (n q : ℕ) (hq : q ≤ n) :
    (∑ k : Fin (n + 1), if n ≤ q + (k : ℕ) then f (q + k - n) else 0) = ∑ j ∈ range (q + 1), f j := by
  rw [Fin.sum_univ_eq_sum_range (fun k => if n ≤ q + k then f (q + k - n) else 0) (n + 1),
    show n + 1 = (n - q) + (q + 1) by omega, sum_range_add, sum_eq_zero, zero_add]
  · refine sum_congr rfl fun j _ => ?_
    rw [if_pos (by omega)]
    exact congrArg f (by omega)
  · intro k hk
    rw [mem_range] at hk
    exact if_neg (by omega)

end Cert.Sums
-- ==== Proof.Block.lean ====
/-
  What one grid point computes: the kernel's body, read at the extended reals, leaves in its (256, 8192) block the
  inclusive prefix sums of the block's rows.

  The body walks the block in 32 chunks of 256 columns. `chunk`, `within`, `carry` and `stored` restate one step of that
  walk for a chunk number `k`, and `out_eq` says that the body's 32 stores are these steps. The rest is about one step:
  a product with the triangular matrix is the prefix sum within the chunk, and the carry is the sum of the chunks before.
-/
module

public import proofs.«01_k».proof.Proof.Gen.KernelIdeal.Frame
public import proofs.«01_k».proof.Proof.Prefix
public import proofs.«01_k».proof.Proof.Sums
public import Idealize.ShloMosaic.Lib.Pointwise
public import Idealize.ShloMosaic.Lib.WordCmp
public import Idealize.ShloMosaic.Lib.Pipeline.Value
public import Idealize.ShloMosaic.Lib.Pipeline.ValueKit.Tiles

@[expose] public section

noncomputable section

namespace Cert.KernelIdeal.Block

open Cert.Prefix Cert.KernelIdeal Cert.KernelIdeal.Gen Idealize.ShloMosaic

/-! ## One step of the walk -/

/-- Chunk `k`'s rectangle lies inside the block (`k` is reduced modulo 32, so that the statement needs no bound). -/
theorem inb_chunk (k : ℕ) : ∀ a, (![0, 256 * (k % 32)] : Fin S256x8192.rank → ℕ) a + S256x256.size a ≤ S256x8192.size a := by
  have := Nat.mod_lt k (show 0 < 32 by decide)
  intro a
  match a with
  | ⟨0, _⟩ => show 0 + 256 ≤ 256; omega
  | ⟨1, _⟩ => show 256 * (k % 32) + 256 ≤ 8192; omega

/-- The rectangle of chunk `k`: all rows, columns `256 k` up to `256 k + 255`. -/
abbrev rect (k : ℕ) : Rect S256x8192 := Rect.unit (s := S256x8192) ![0, 256 * (k % 32)] S256x256.size (inb_chunk k)

/-- Chunk `k` of the block. -/
def chunk (x : Vec Ideal S256x8192 .f32) (k : ℕ) : FVec Ideal S256x256 .f32 := View.ld x (rect k)

/-- The sums within chunk `k`: its product with the triangular matrix. -/
def within (x : Vec Ideal S256x8192 .f32) (k : ℕ) : FVec Ideal S256x256 .f32 :=
  matmul dot_S256x256_S256x256_S256x256_1_0_0_1_n_n none (chunk x k) (k0_pay1 (F := Ideal)) (constant S256x256 .f32 0x00000000#32)

/-- The carry into chunk `k`: from zero, each earlier chunk's last column added in turn. -/
def carry (x : Vec Ideal S256x8192 .f32) : ℕ → FVec Ideal S256x1 .f32
  | 0 => k0_pay2 (F := Ideal)
  | k + 1 => addf (carry x k) (extractStridedSlice S256x1 ![0, 255] (within x k) slices_S256x256_o0_255_S256x1)

/-- What is stored over chunk `k`: the sums within it, plus the carry in every column. -/
def stored (x : Vec Ideal S256x8192 .f32) (k : ℕ) : FVec Ideal S256x256 .f32 :=
  addf (within x k) (broadcastTo S256x256 (carry x k) broadcasts_S256x1_S256x256)

set_option maxHeartbeats 4000000 in
set_option maxRecDepth 16384 in
/-- The body's stores, last first, are the steps 31, 30, …, 0. -/
theorem out_eq (x : Vec Ideal S256x8192 .f32) :
    out0_1 x = View.canon ((List.range 32).reverse.map fun k => (⟨rect k, stored x k⟩ : View.Piece (Elt Ideal) S256x8192 .f32)) := rfl

/-! ## The step's value at an index -/

/-- The triangular matrix: one where the row number is at most the column number, zero elsewhere. -/
theorem tri_apply (a b : Fin 256) : k0_pay1 (F := Ideal) (ix2 a b) = if (a : ℕ) ≤ b then 1 else 0 := by
  pointwise [k0_pay1]
  rw [WordCmp.cmpi_sle_ofNat (by have := a.isLt; omega) (by have := b.isLt; omega)]
  by_cases h : (a : ℕ) ≤ b
  · rw [if_pos h, decide_eq_true h]
    show (((1 : ℤ) : ℝ) : EReal) = 1
    norm_num
  · rw [if_neg h, decide_eq_false h]
    show (((0 : ℤ) : ℝ) : EReal) = 0
    norm_num

/-- Chunk `k` at row `r` and column `q` is the row at column `256 k + q`. -/
theorem chunk_apply (x : Vec Ideal S256x8192 .f32) (k : ℕ) (hk : k < 32) (r q : Fin 256) :
    chunk x k (ix2 r q) = row x r (256 * k + q) := by
  have hq := q.isLt
  refine View.ld_unit_apply_of x _ _ _ _ _ fun a => ?_
  match a with
  | ⟨0, _⟩ => show (r : ℕ) = 0 + r; omega
  | ⟨1, _⟩ => show (256 * k + q) % 8192 = 256 * (k % 32) + q; omega

/-- The sums within a chunk are the chunk's own prefix sums. -/
theorem within_apply (x : Vec Ideal S256x8192 .f32) (k : ℕ) (hk : k < 32) (r q : Fin 256) :
    within x k (ix2 r q) = ∑ j ∈ Finset.range (q + 1), row x r (256 * k + j) := by
  pointwise [within]
  simp only [tri_apply, chunk_apply x k hk]
  exact Sums.sum_mul_le_eq (fun j => row x r (256 * k + j)) q q.isLt

/-- The carry into chunk `k` is the sum of all the columns before it. -/
theorem carry_apply (x : Vec Ideal S256x8192 .f32) (r : Fin 256) (z : Fin 1) (k : ℕ) (hk : k < 32) :
    carry x k (ix2 r z) = ∑ j ∈ Finset.range (256 * k), row x r j := by
  induction k with
  | zero =>
    pointwise [carry, k0_pay2]
    exact (Finset.sum_range_zero _).symm
  | succ k ih =>
    pointwise [carry]
    rw [ih (by omega), within_apply x k (by omega)]
    exact Sums.sum_range_append (row x r) (256 * k) 256

/-- What is stored over chunk `k` is the prefix sum up to each of its columns. -/
theorem stored_apply (x : Vec Ideal S256x8192 .f32) (k : ℕ) (hk : k < 32) (r q : Fin 256) :
    stored x k (ix2 r q) = ∑ j ∈ Finset.range (256 * k + q + 1), row x r j := by
  pointwise [stored]
  rw [within_apply x k hk, carry_apply x r 0 k hk, add_comm]
  exact Sums.sum_range_append (row x r) (256 * k) (q + 1)

/-! ## The block -/

/-- The 32 rectangles cover the block: column `j` lies in chunk `j / 256`. -/
theorem mem_rect (r : Fin 256) (j : Fin 8192) : ix2 r j ∈ (rect (j / 256)).set := by
  have hr := r.isLt
  have hj := j.isLt
  refine Rect.mem_set_unit.mpr fun a => ?_
  match a with
  | ⟨0, _⟩ => exact ⟨Nat.zero_le _, show (r : ℕ) < 0 + 256 by omega⟩
  | ⟨1, _⟩ =>
    exact ⟨show 256 * ((j : ℕ) / 256 % 32) ≤ j by omega, show (j : ℕ) < 256 * ((j : ℕ) / 256 % 32) + 256 by omega⟩

/-- Step `k`'s store is its rectangle of the prefix sums. -/
theorem stored_eq (x : Vec Ideal S256x8192 .f32) (k : ℕ) (hk : k < 32) (y : S256x256.Idx) :
    stored x k y = sums x ((rect k).emb y) := by
  obtain ⟨a, b, rfl⟩ : ∃ a b : Fin 256, y = ix2 a b := ⟨_, _, eq_ix2 y⟩
  refine (stored_apply x k hk a b).trans ?_
  have h0 : (rect k).emb (ix2 a b) 0 = a := Fin.ext (show 0 + 1 * (a : ℕ) = a by omega)
  have h1 : ((rect k).emb (ix2 a b) 1).val = 256 * k + b := show 256 * (k % 32) + 1 * (b : ℕ) = 256 * k + b by omega
  unfold sums
  rw [h0, h1]

/-- The block the body leaves is the block of prefix sums. -/
theorem out_eq_sums (x : Vec Ideal S256x8192 .f32) : out0_1 x = sums x := by
  funext y
  obtain ⟨r, j, rfl⟩ : ∃ (r : Fin 256) (j : Fin 8192), y = ix2 r j := ⟨_, _, eq_ix2 y⟩
  rw [out_eq]
  refine View.canon_apply_of_pieces (Val := Elt Ideal) (S := S256x8192) (e := .f32) (sums x) _ ?_ _ ?_
  · intro p hp
    obtain ⟨k, hk, rfl⟩ := List.mem_map.mp hp
    exact stored_eq x k (List.mem_range.mp (List.mem_reverse.mp hk))
  · refine ⟨_, List.mem_map.mpr ⟨(j : ℕ) / 256, ?_, rfl⟩, mem_rect r j⟩
    exact List.mem_reverse.mpr (List.mem_range.mpr (by have := j.isLt; omega))

end Cert.KernelIdeal.Block

end
-- ==== Proof.Array.lean ====
/-
  What the kernel leaves in its result array: each of the 16 grid points takes 256 whole rows, so that the blocks of
  prefix sums, laid under one another, are the prefix sums of the whole array.
-/
module

public import proofs.«01_k».proof.Proof.Gen.KernelIdeal.Value
public import proofs.«01_k».proof.Proof.Block
public import Idealize.ShloMosaic.Lib.Pipeline.ValueKit

@[expose] public section

noncomputable section

namespace Cert.KernelIdeal.Whole

open Cert.Prefix Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- At point `t` both windows stand at block row `t`, block column 0. -/
theorem index_eq (t : Fin cfg0.N) : win0_0.index t = ![t.val, 0] ∧ win0_1.index t = ![t.val, 0] :=
  (by decide +kernel : ∀ t : Fin grid0.N, win0_0.index t = ![t.val, 0] ∧ win0_1.index t = ![t.val, 0]) t

/-- There are 16 points. -/
theorem points_eq : cfg0.N = 16 := by decide +kernel

/-- The argument array on device `c`, as launched. -/
abbrev arg (c : Dev nD) : Vec Ideal S4096x8192 .f32 := m ((c : Thread nD τ).loc main_arg0)

/-- Row `r` of the block staged at point `t` is row `256 t + r` of the argument. -/
theorem staged_apply (c : Dev nD) (t : Fin cfg0.N) (r : Fin 256) (q : Fin 8192) (r' : Fin 4096) (hr : (r' : ℕ) = 256 * t + r) :
    iblk m c 0 t (ix2 r q) = arg m c (ix2 r' q) := by
  have e := (index_eq t).1
  blk_ext [iblk, V, e]

/-- What point `t` writes back is its block of the whole array's prefix sums. -/
theorem flushed_eq (c : Dev nD) (t : Fin cfg0.N) :
    (dats m 0 c).flushed 1 t = ((cfg0.win 1).blk t).view.read (Elt Ideal) (sums (R := 4096) (C := 8192) (arg m c)) := by
  rw [Value.flushed1, Block.out_eq_sums]
  funext y
  obtain ⟨r, q, rfl⟩ : ∃ (r : Fin 256) (q : Fin 8192), y = ix2 r q := ⟨_, _, eq_ix2 y⟩
  have ht : t.val < 16 := points_eq ▸ t.isLt
  have hr := r.isLt
  have e := (index_eq t).2
  have hemb : ((cfg0.win 1).blk t).view.emb (ix2 r q) = ix2 (⟨256 * t + r, by omega⟩ : Fin 4096) q := by
    blk_ext [e]
  show sums (R := 256) (C := 8192) (iblk m c 0 t) (ix2 r q)
    = sums (R := 4096) (C := 8192) (arg m c) (((cfg0.win 1).blk t).view.emb (ix2 r q))
  rw [hemb]
  exact sums_congr _ _ _ _ (fun q => staged_apply m c t r q _ rfl) q

/-- Every element of the result array lies in some point's block. -/
theorem covered (i : S4096x8192.Idx) : ∃ t : Fin cfg0.N, (cfg0.win 1).flush t = true ∧ i ∈ ((cfg0.win 1).blk t).view.set := by
  have h0 : (i 0 : ℕ) < 4096 := (i 0).isLt
  have h1 : (i 1 : ℕ) < 8192 := (i 1).isLt
  refine ⟨⟨(i 0 : ℕ) / 256, by rw [points_eq]; omega⟩, flush0_1 _, ?_⟩
  have e := (index_eq ⟨(i 0 : ℕ) / 256, by rw [points_eq]; omega⟩).2
  mem_blk [e]
  show ((i 0 : ℕ) / 256 * 256 ≤ i 0 ∧ (i 0 : ℕ) < (i 0 : ℕ) / 256 * 256 + 256) ∧ 0 ≤ (i 1 : ℕ) ∧ (i 1 : ℕ) < 8192
  omega

/-- The result array holds the prefix sums of the argument. -/
theorem final_eq (c : Dev nD) : (dats m 0 c).arrAt 1 cfg0.N = sums (R := 4096) (C := 8192) (arg m c) :=
  (dats m 0 c).arrAt_eq_of_cover 1 _ (fun t _ => flushed_eq m c t) covered

/-- Every run of the kernel ends with the prefix sums of its argument in the result, and the argument unchanged. -/
theorem run : θ_run defs (onTc (τ := τ) (main (F := Ideal))) ⟨m, fun _ => 0, ρ⟩ fun r => ∀ c : Dev nD,
      r.2.mem ((c : Thread nD τ).loc main_v0) = sums (R := 4096) (C := 8192) (arg m c)
      ∧ r.2.mem ((c : Thread nD τ).loc main_arg0) = arg m c :=
  (θ_run defs _ _).mono (fun _ h c => ⟨(h c).1.trans (final_eq m c), (h c).2⟩) (Value.run_blocks m ρ)

end Cert.KernelIdeal.Whole

end
-- ==== Proof.Reference.lean ====
/-
  What the reference computes: its running window, as wide as the array and padded below by its width less one, sums at
  each column exactly the columns up to it.
-/
module

public import proofs.«01_k».proof.Proof.Gen.ReferenceIdeal.Run
public import proofs.«01_k».proof.Proof.Prefix
public import proofs.«01_k».proof.Proof.Sums
public import Idealize.ShloMosaic.Lib.Pointwise
public import Idealize.ShloMosaic.Lib.Pipeline.Value

@[expose] public section

noncomputable section

namespace Cert.ReferenceIdeal.Running

open Cert.Prefix Cert.ReferenceIdeal Cert.ReferenceIdeal.Gen Idealize.ShloMosaic

/-- The array with `n` columns of zeros put before it, read at the coordinates `p`. -/
def padded {R C : ℕ} (n : ℕ) (x : (⟨2, ![R, C]⟩ : Shape).Idx → EReal) (p : Fin 2 → ℕ) : EReal :=
  if hin : ∀ a : Fin 2, (![0, n] : Fin 2 → ℕ) a ≤ p a ∧ p a - (![0, n] : Fin 2 → ℕ) a < (![R, C] : Fin 2 → ℕ) a then
    x (fun a => ⟨p a - (![0, n] : Fin 2 → ℕ) a, (hin a).2⟩) else 0

/-- At row `r` the padded array holds zeros up to column `n`, then the row. -/
theorem padded_apply {R C n : ℕ} [NeZero C] (hC : C = n + 1) (x : (⟨2, ![R, C]⟩ : Shape).Idx → EReal) (r : Fin R) (j : ℕ)
    (hj : j < n + C) (p : Fin 2 → ℕ) (h0 : p 0 = r) (h1 : p 1 = j) :
    padded n x p = if n ≤ j then row x r (j - n) else 0 := by
  unfold padded
  by_cases h : n ≤ j
  · have hin : ∀ a : Fin 2, (![0, n] : Fin 2 → ℕ) a ≤ p a ∧ p a - (![0, n] : Fin 2 → ℕ) a < (![R, C] : Fin 2 → ℕ) a := fun a =>
      match a with
      | ⟨0, _⟩ => ⟨Nat.zero_le _, show p 0 - 0 < R by rw [h0]; exact r.isLt⟩
      | ⟨1, _⟩ => ⟨show n ≤ p 1 by omega, show p 1 - n < C by omega⟩
    rw [if_pos h, dif_pos hin]
    refine congrArg x (funext fun a => Fin.ext ?_)
    match a with
    | ⟨0, _⟩ => exact h0
    | ⟨1, _⟩ =>
      show p 1 - n = (j - n) % C
      rw [h1, Nat.mod_eq_of_lt (by omega)]
  · rw [if_neg h, dif_neg]
    intro hin
    have h2 : n ≤ p 1 := (hin 1).1
    omega

/-- A running window as wide as the rows, padded by one column less below, from zero, gives the prefix sums. -/
theorem window_eq {R C n : ℕ} [NeZero C] (hC : C = n + 1) (x : (⟨2, ![R, C]⟩ : Shape).Idx → EReal) (u : Shape)
    (v : u.Idx → EReal) (hv : ∀ i, v i = 0)
    (h : (⟨2, ![R, C]⟩ : Shape).ReduceWindows ![1, C] ![1, 1] ![0, n] ![0, 0] ⟨2, ![R, C]⟩) (hu : 0 < u.numel) :
    Host.reduceWindow (· + ·) ![1, C] ![1, 1] ![0, n] ![0, 0] x v h hu = sums x := by
  subst hC
  funext y
  obtain ⟨r, q, rfl⟩ : ∃ (r : Fin R) (q : Fin (n + 1)), y = ix2 r q := ⟨_, _, eq_ix2 y⟩
  have hq := q.isLt
  refine Eq.trans ?_ (Sums.sum_padded_window (row x r) n q (Nat.le_of_lt_succ hq))
  unfold Host.reduceWindow
  simp only [hv]
  rw [Sums.foldl_finRange_eq, zero_add]
  refine (Equiv.sum_comp (⟨2, ![1, n + 1]⟩ : Shape).rowMajor.symm fun w =>
    padded n x fun a => (ix2 r q (a.cast h.1.symm)).val * (![1, 1] : Fin 2 → ℕ) a + (w a).val).trans ?_
  rw [sum_idx2, Fin.sum_univ_one]
  refine Finset.sum_congr rfl fun b _ => padded_apply rfl x r (q + b) (by have := b.isLt; omega) _ ?_ ?_
  · show (r : ℕ) * 1 + 0 = r
    omega
  · show (q : ℕ) * 1 + b = q + b
    omega

/-- The reference's result is the prefix sums of its argument. -/
theorem result_eq (x : FVec Ideal S4096x8192 .f32) :
    Host.reduceWindowAdd ![1, 8192] ![1, 1] ![0, 8191] ![0, 0] x (broadcastInDim S_ ![] bcast_S_S_ (constant S_ .f32 0x00000000#32))
      reduceWindows_S4096x8192_S4096x8192_w1s1p0_0_w8192s1p8191_0 h_S_ = sums x := by
  unfold Host.reduceWindowAdd
  rw [Ideal.hostReduceWindowAdd_def]
  unfold Ideal.hostReduceWindowAdd
  refine window_eq (R := 4096) (C := 8192) (n := 8191) (by norm_num) x _ _ (fun _ => ?_) _ _
  pointwise []

open Idealize.ShloMosaic.TcCoe Idealize.SL.Sem in
/-- Every run of the reference ends with the prefix sums of its argument in the result, and the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = sums (R := 4096) (C := 8192) (m ((c : Thread nD τ).loc main_arg0))
      ∧ r.2.mem ((c : Thread nD τ).loc main_arg0) = m ((c : Thread nD τ).loc main_arg0) :=
  (θ_run defs _ _).mono (fun _ h c => ⟨(h c).1.trans (result_eq _), (h c).2⟩) (Value.run m ρ)

end Cert.ReferenceIdeal.Running

end
-- ==== Proof.lean ====
/-
  The proof of `Cert.Claim` (proofs.«01_k».proof.Defs), assembled: the three programs leave their arguments alone (the
  kernel's two frames are generated, the reference's follows from its run), nothing was replaced on the way to the
  idealized kernel, and over the extended reals the kernel and the reference both end with the prefix sums of the
  argument's rows.
-/
module

public import proofs.«01_k».proof.Defs
public import proofs.«01_k».proof.Proof.Gen.Kernel
public import proofs.«01_k».proof.Proof.Gen.Kernel.Frame
public import proofs.«01_k».proof.Proof.Array
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem

/-- The reference ends, leaves its argument as it was, and its semaphores (it has none) at zero. -/
theorem reference_frame : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Running.run m ρ)

/-- From equal arguments the kernel and the reference end with one result: the prefix sums. -/
theorem same_result : Cert.algebraic_KernelIdeal_ReferenceIdeal (hKernelIdeal := Cert.KernelIdeal.Gen.facts)
    (hReferenceIdeal := Cert.ReferenceIdeal.Gen.facts) := by
  intro m g m' g' _ hagree
  refine ⟨fun c => Cert.Prefix.sums (R := 4096) (C := 8192) (Cert.KernelIdeal.Whole.arg m c), Cert.KernelIdeal.Whole.run m g, ?_⟩
  refine (θ_run _ _ _).mono (fun r h c => ⟨(h c).1.trans ?_, (h c).2⟩) (Cert.ReferenceIdeal.Running.run m' g')
  exact congrArg (Cert.Prefix.sums (R := 4096) (C := 8192)) (hagree c)

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, same_result⟩

end Cert.Proof

end
